-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8x64 : Shape := ⟨3, ![2048, 8, 64]⟩
abbrev S8x64x2048 : Shape := ⟨3, ![8, 64, 2048]⟩
abbrev S8x2048x64 : Shape := ⟨3, ![8, 2048, 64]⟩
abbrev S8x2048x16 : Shape := ⟨3, ![8, 2048, 16]⟩
abbrev S1x1024x64 : Shape := ⟨3, ![1, 1024, 64]⟩
abbrev S1x64x2048 : Shape := ⟨3, ![1, 64, 2048]⟩
abbrev S1x1024x16 : Shape := ⟨3, ![1, 1024, 16]⟩
abbrev S8x128 : Shape := ⟨2, ![8, 128]⟩
abbrev S1024x64 : Shape := ⟨2, ![1024, 64]⟩
abbrev S64x2048 : Shape := ⟨2, ![64, 2048]⟩
abbrev S1024x2048 : Shape := ⟨2, ![1024, 2048]⟩
abbrev S1024 : Shape := ⟨1, ![1024]⟩
abbrev S1024x1 : Shape := ⟨2, ![1024, 1]⟩
abbrev S2048 : Shape := ⟨1, ![2048]⟩
abbrev S1x2048 : Shape := ⟨2, ![1, 2048]⟩
abbrev S1024x128 : Shape := ⟨2, ![1024, 128]⟩
abbrev S1024x16 : Shape := ⟨2, ![1024, 16]⟩
abbrev S16x2048x8 : Shape := ⟨3, ![16, 2048, 8]⟩
abbrev S262144 : Shape := ⟨1, ![262144]⟩
abbrev S8 : Shape := ⟨1, ![8]⟩

abbrev nBuf : Space → Nat
  | .hbm => 10
  | .vmem => 7
  | .smem => 0
  | _ => 0

abbrev bufTy : (tb : Table) → Fin (tcTables nBuf tb) → BufTy
  | .hbm, ⟨0, _⟩ => ⟨S2048x8x64, .f32⟩
  | .hbm, ⟨1, _⟩ => ⟨S2048x8x64, .f32⟩
  | .hbm, ⟨2, _⟩ => ⟨S8x64x2048, .f32⟩
  | .hbm, ⟨3, _⟩ => ⟨S8x2048x64, .f32⟩
  | .hbm, ⟨4, _⟩ => ⟨S8x2048x16, .i32⟩
  | .hbm, ⟨5, _⟩ => ⟨S16x2048x8, .i32⟩
  | .hbm, ⟨6, _⟩ => ⟨S262144, .i32⟩
  | .hbm, ⟨7, _⟩ => ⟨S8, .i32⟩
  | .hbm, ⟨8, _⟩ => ⟨S16x2048x8, .i32⟩
  | .hbm, ⟨9, _⟩ => ⟨S262144, .i32⟩
  | .local _ .vmem, ⟨0, _⟩ => ⟨S1x1024x64, .f32⟩
  | .local _ .vmem, ⟨1, _⟩ => ⟨S1x1024x64, .f32⟩
  | .local _ .vmem, ⟨2, _⟩ => ⟨S1x64x2048, .f32⟩
  | .local _ .vmem, ⟨3, _⟩ => ⟨S1x64x2048, .f32⟩
  | .local _ .vmem, ⟨4, _⟩ => ⟨S1x1024x16, .i32⟩
  | .local _ .vmem, ⟨5, _⟩ => ⟨S1x1024x16, .i32⟩
  | .local _ .vmem, ⟨6, _⟩ => ⟨S8x128, .i32⟩
  | _, _ => ⟨S2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S2048x8x64 : Shape := ⟨3, ![2048, 8, 64]⟩
abbrev S8x2048x64 : Shape := ⟨3, ![8, 2048, 64]⟩
abbrev S_ : Shape := ⟨0, ![]⟩
abbrev S8x2048 : Shape := ⟨2, ![8, 2048]⟩
abbrev S8x2048x1 : Shape := ⟨3, ![8, 2048, 1]⟩
abbrev S8x64x2048 : Shape := ⟨3, ![8, 64, 2048]⟩
abbrev S8x2048x2048 : Shape := ⟨3, ![8, 2048, 2048]⟩
abbrev S8x1x2048 : Shape := ⟨3, ![8, 1, 2048]⟩
abbrev S8x2048x16 : Shape := ⟨3, ![8, 2048, 16]⟩
abbrev S16x2048x8 : Shape := ⟨3, ![16, 2048, 8]⟩
abbrev S8 : Shape := ⟨1, ![8]⟩
abbrev S262144 : Shape := ⟨1, ![262144]⟩

abbrev nBuf : Space → Nat
  | .hbm => 51
  | .vmem => 0
  | .smem => 0
  | _ => 0

abbrev bufTy : (tb : Table) → Fin (tcTables nBuf tb) → BufTy
  | .hbm, ⟨0, _⟩ => ⟨S2048x8x64, .f32⟩
  | .hbm, ⟨1, _⟩ => ⟨S2048x8x64, .f32⟩
  | .hbm, ⟨2, _⟩ => ⟨S8x2048x64, .f32⟩
  | .hbm, ⟨3, _⟩ => ⟨S8x2048x64, .f32⟩
  | .hbm, ⟨4, _⟩ => ⟨S8x2048x64, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S8x64x2048, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x64, .f32⟩
  | .hbm, ⟨16, _⟩ => ⟨S_, .f32⟩
  | .hbm, ⟨17, _⟩ => ⟨S8x2048, .f32⟩
  | .hbm, ⟨18, _⟩ => ⟨S8x1x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S8x2048x16, .f32⟩
  | .hbm, ⟨23, _⟩ => ⟨S8x2048x16, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S8x2048x16, .i32⟩
  | .hbm, ⟨31, _⟩ => ⟨S8x2048x16, .i32⟩
  | .hbm, ⟨32, _⟩ => ⟨S_, .i32⟩
  | .hbm, ⟨33, _⟩ => ⟨S8x2048x16, .i32⟩
  | .hbm, ⟨34, _⟩ => ⟨S8x2048x16, .i1⟩
  | .hbm, ⟨35, _⟩ => ⟨S_, .i32⟩
  | .hbm, ⟨36, _⟩ => ⟨S8x2048x16, .i32⟩
  | .hbm, ⟨37, _⟩ => ⟨S8x2048x16, .i1⟩
  | .hbm, ⟨38, _⟩ => ⟨S_, .i32⟩
  | .hbm, ⟨39, _⟩ => ⟨S_, .i1⟩
  | .hbm, ⟨40, _⟩ => ⟨S8x2048x16, .i1⟩
  | .hbm, ⟨41, _⟩ => ⟨S8x2048x16, .i1⟩
  | .hbm, ⟨42, _⟩ => ⟨S8x2048x16, .i1⟩
  | .hbm, ⟨43, _⟩ => ⟨S8x2048x16, .i32⟩
  | .hbm, ⟨44, _⟩ => ⟨S8x2048x16, .i32⟩
  | .hbm, ⟨45, _⟩ => ⟨S8x2048x16, .i32⟩
  | .hbm, ⟨46, _⟩ => ⟨S16x2048x8, .i32⟩
  | .hbm, ⟨47, _⟩ => ⟨S8, .i32⟩
  | .hbm, ⟨48, _⟩ => ⟨S16x2048x8, .i32⟩
  | .hbm, ⟨49, _⟩ => ⟨S262144, .i32⟩
  | .hbm, ⟨50, _⟩ => ⟨S262144, .i32⟩
  | _, _ => ⟨S2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_values : Ref sig .tc := ⟨.hbm, 22, rfl⟩
abbrev main_indices : Ref sig .tc := ⟨.hbm, 23, rfl⟩
abbrev main_c : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c_1 : Ref sig .tc := ⟨.hbm, 32, rfl⟩
abbrev main_call0_v5 : Ref sig .tc := ⟨.hbm, 33, rfl⟩
abbrev main_call0_v6 : Ref sig .tc := ⟨.hbm, 34, rfl⟩
abbrev main_call0_c_2 : Ref sig .tc := ⟨.hbm, 35, rfl⟩
abbrev main_call0_v7 : Ref sig .tc := ⟨.hbm, 36, rfl⟩
abbrev main_call0_v8 : Ref sig .tc := ⟨.hbm, 37, rfl⟩
abbrev main_call0_c_3 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩

abbrev nD : Nat := 1
abbrev τ : Topo := Topo.v7x

variable {F : FTy → Type} [FloatOps F]
-- ==== Proof.Model.lean ====
module

public import proofs.«01_k».proof.Proof.Gen.KernelIdeal.Frame

/-! The kernel's tile as a plain function: sixteen planes of 128 lanes, each a pair (values, indices); a list of 63
exchanges; sixteen rounds, each taking the least entry of the front plane and shifting the queue of the lane it came from. -/

@[expose] public section

noncomputable section

namespace Cert.KernelIdeal.Gen

open Idealize.ShloMosaic

variable {F : FTy → Type} [FloatOps F]

/-- A plane: 1024 rows of 128 lanes. -/
abbrev Pl (F : FTy → Type) := FVec F S1024x128 .f32

/-- Where the entry of `q` goes before the entry of `p`: lesser value, or equal value and lesser index. -/
def before (q p : Pl F × Pl F) : IVec S1024x128 1 :=
  ori (cmpf .olt q.1 p.1) (andi (cmpf .oeq q.1 p.1) (cmpf .olt q.2 p.2))

/-- One exchange at the two positions of `ab`: the lesser entry to the first, the greater to the second. -/
def exch (σ : ℕ → Pl F × Pl F) (ab : ℕ × ℕ) : ℕ → Pl F × Pl F := fun k =>
  if k = ab.1 then
    (select (before (σ ab.2) (σ ab.1)) (σ ab.2).1 (σ ab.1).1, select (before (σ ab.2) (σ ab.1)) (σ ab.2).2 (σ ab.1).2)
  else if k = ab.2 then
    (select (before (σ ab.2) (σ ab.1)) (σ ab.1).1 (σ ab.2).1, select (before (σ ab.2) (σ ab.1)) (σ ab.1).2 (σ ab.2).2)
  else σ k

/-- The exchanges of the sorting network on sixteen planes. -/
def pairs : List (ℕ × ℕ) :=
    [(0, 1), (2, 3), (4, 5), (6, 7), (8, 9), (10, 11), (12, 13), (14, 15), (0, 2), (1, 3), (4, 6), (5, 7), (8, 10), (9, 11), (12, 14),
      (13, 15), (1, 2), (5, 6), (9, 10), (13, 14), (0, 4), (1, 5), (2, 6), (3, 7), (8, 12), (9, 13), (10, 14), (11, 15), (2, 4), (3, 5),
      (10, 12), (11, 13), (1, 2), (3, 4), (5, 6), (9, 10), (11, 12), (13, 14), (0, 8), (1, 9), (2, 10), (3, 11), (4, 12), (5, 13),
      (6, 14), (7, 15), (4, 8), (5, 9), (6, 10), (7, 11), (2, 4), (3, 5), (6, 8), (7, 9), (10, 12), (11, 13), (1, 2), (3, 4), (5, 6),
      (7, 8), (9, 10), (11, 12), (13, 14)]

/-- The least element of each row, as a column. -/
def rowMin (v : Pl F) : FVec F S1024x1 .f32 :=
  shapeCast S1024x1 (multiReduction .minimumf [1] S1024 v 0x7F800000#32 reduces_S1024x128_S1024 (.inl rfl) rfl) shapeCasts_S1024_S1024x1

/-- A column read at every lane. -/
def spread (v : FVec F S1024x1 .f32) : Pl F := broadcastTo S1024x128 v broadcasts_S1024x1_S1024x128

/-- The index of the least entry of each row of a plane: among the lanes that hold the least value, the least index. -/
def pick (q : Pl F × Pl F) : FVec F S1024x1 .f32 :=
  rowMin (select (cmpf .oeq q.1 (spread (rowMin q.1))) q.2 (broadcast S1024x128 (Scalar.ofBits .f32 0x45000000#32)))

/-- The lanes whose front entry has the picked index. -/
def picked (q : Pl F × Pl F) : IVec S1024x128 1 := cmpf .oeq q.2 (spread (pick q))

/-- One round's shift: the picked lane's queue moves up by one. -/
def pop (σ : ℕ → Pl F × Pl F) : ℕ → Pl F × Pl F := fun j =>
  (select (picked (σ 0)) (σ (j + 1)).1 (σ j).1, select (picked (σ 0)) (σ (j + 1)).2 (σ j).2)

/-- The planes after the network and `k` rounds. -/
def queues (z : ℕ → Pl F × Pl F) : ℕ → ℕ → Pl F × Pl F
  | 0 => pairs.foldl exch z
  | k + 1 => pop (queues z k)

/-- The sixteen picked indices of each row, as words. -/
def picks (z : ℕ → Pl F × Pl F) : IVec S1x1024x16 32 :=
  shapeCast S1x1024x16 (fptosi 32 (concatenate S1024x16 1 [⟨S1024x1, pick (queues z 0 0)⟩, ⟨S1024x1, pick (queues z 1 0)⟩, ⟨S1024x1, pick (queues z 2 0)⟩, ⟨S1024x1, pick (queues z 3 0)⟩, ⟨S1024x1, pick (queues z 4 0)⟩, ⟨S1024x1, pick (queues z 5 0)⟩, ⟨S1024x1, pick (queues z 6 0)⟩, ⟨S1024x1, pick (queues z 7 0)⟩, ⟨S1024x1, pick (queues z 8 0)⟩, ⟨S1024x1, pick (queues z 9 0)⟩, ⟨S1024x1, pick (queues z 10 0)⟩, ⟨S1024x1, pick (queues z 11 0)⟩, ⟨S1024x1, pick (queues z 12 0)⟩, ⟨S1024x1, pick (queues z 13 0)⟩, ⟨S1024x1, pick (queues z 14 0)⟩, ⟨S1024x1, pick (queues z 15 0)⟩] concatenates_S1024x1_S1024x1_S1024x1_S1024x1_S1024x1_S1024x1_S1024x1_S1024x1_S1024x1_S1024x1_S1024x1_S1024x1_S1024x1_S1024x1_S1024x1_S1024x1_S1024x16_d1)) shapeCasts_S1024x16_S1x1024x16

/-- The sixteen planes before the network: plane `p` holds the distances to the keys from `128 p` on, and their indices. -/
def planes (v0 : Vec F S1x1024x64 .f32) (v2 : Vec F S1x64x2048 .f32) : ℕ → Pl F × Pl F
  | 0 => (k0_pay6 v0 v2, k0_pay22)
  | 1 => (k0_pay7 v0 v2, k0_pay23)
  | 2 => (k0_pay8 v0 v2, k0_pay24)
  | 3 => (k0_pay9 v0 v2, k0_pay25)
  | 4 => (k0_pay10 v0 v2, k0_pay26 k0_pay5 (Scalar.ofBits .f32 0x44000000#32))
  | 5 => (k0_pay11 v0 v2, k0_pay27 k0_pay5)
  | 6 => (k0_pay12 v0 v2, k0_pay28 k0_pay5)
  | 7 => (k0_pay13 v0 v2, k0_pay29 k0_pay5)
  | 8 => (k0_pay14 v0 v2, k0_pay30 k0_pay5)
  | 9 => (k0_pay15 v0 v2, k0_pay31 k0_pay5)
  | 10 => (k0_pay16 v0 v2, k0_pay32 k0_pay5)
  | 11 => (k0_pay17 v0 v2, k0_pay33 k0_pay5)
  | 12 => (k0_pay18 v0 v2, k0_pay34 k0_pay5)
  | 13 => (k0_pay19 v0 v2, k0_pay35 k0_pay5)
  | 14 => (k0_pay20 v0 v2, k0_pay36 k0_pay5)
  | _ => (k0_pay21 v0 v2, k0_pay37 k0_pay5)

end Cert.KernelIdeal.Gen

end
-- ==== Proof.Link.lean ====
module

public import proofs.«01_k».proof.Proof.Model

@[expose] public section

noncomputable section

namespace Cert.KernelIdeal.Gen

open Idealize.ShloMosaic Idealize.ShloMosaic.Tactic

variable {F : FTy → Type} [FloatOps F]

set_option maxRecDepth 65536 in
/-- The payload the body stores is the model's picks of the planes it loads. -/
theorem stored_eq (c : Dev nD) (arg2 : Memref sig .tc .vmem S1x1024x64 .f32) (harg2 : arg2.IsWhole) (arg3 : Memref sig .tc .vmem S1x64x2048 .f32) (harg3 : arg3.IsWhole)
    (x0 : Vec F S1x1024x64 .f32) (x1 : Vec F S1x64x2048 .f32) :
    k0_pay3 (kernelRun0_A.sl.r_209 c arg2 harg2 arg3 harg3 x0 x1) (kernelRun0_A.sl.r_238 c arg2 harg2 arg3 harg3 x0 x1) (kernelRun0_A.sl.r_249 c arg2 harg2 arg3 harg3 x0 x1) (kernelRun0_A.sl.r_272 c arg2 harg2 arg3 harg3 x0 x1) (kernelRun0_A.sl.r_292 c arg2 harg2 arg3 harg3 x0 x1) (kernelRun0_A.sl.r_299 c arg2 harg2 arg3 harg3 x0 x1) (kernelRun0_A.sl.r_321 c arg2 harg2 arg3 harg3 x0 x1) (kernelRun0_A.sl.r_322 c arg2 harg2 arg3 harg3 x0 x1) (kernelRun0_A.sl.r_340 c arg2 harg2 arg3 harg3 x0 x1) (kernelRun0_A.sl.r_341 c arg2 harg2 arg3 harg3 x0 x1) (kernelRun0_A.sl.r_349 c arg2 harg2 arg3 harg3 x0 x1) (kernelRun0_A.sl.r_356 c arg2 harg2 arg3 harg3 x0 x1) (kernelRun0_A.sl.r_357 c arg2 harg2 arg3 harg3 x0 x1) (kernelRun0_A.sl.r_362 c arg2 harg2 arg3 harg3 x0 x1) (k0_pay1 (kernelRun0_A.sl.r_364 c arg2 harg2 arg3 harg3 x0 x1) (kernelRun0_A.sl.r_365 c arg2 harg2 arg3 harg3 x0 x1)) (k0_pay2 (kernelRun0_A.sl.r_358 c arg2 harg2 arg3 harg3 x0 x1) (kernelRun0_A.sl.r_359 c arg2 harg2 arg3 harg3 x0 x1) (kernelRun0_A.sl.r_360 c arg2 harg2 arg3 harg3 x0 x1) (kernelRun0_A.sl.r_361 c arg2 harg2 arg3 harg3 x0 x1) (kernelRun0_A.sl.r_363 c arg2 harg2 arg3 harg3 x0 x1) (kernelRun0_A.sl.r_364 c arg2 harg2 arg3 harg3 x0 x1) (kernelRun0_A.sl.r_365 c arg2 harg2 arg3 harg3 x0 x1) (k0_pay1 (kernelRun0_A.sl.r_364 c arg2 harg2 arg3 harg3 x0 x1) (kernelRun0_A.sl.r_365 c arg2 harg2 arg3 harg3 x0 x1)))
      = picks (planes
          (View.readAt (Elt F) arg2.view (Rect.unit ![0, 0, 0] S1x1024x64.size inb_S1x1024x64_S1x1024x64_0_0_0).toLoadRect (harg2.unread x0))
          (View.readAt (Elt F) arg3.view (Rect.unit ![0, 0, 0] S1x64x2048.size inb_S1x64x2048_S1x64x2048_0_0_0).toLoadRect (harg3.unread x1))) := by
  sl_kernel_rfl

end Cert.KernelIdeal.Gen

end
-- ==== Proof.Rounds.lean ====
module

public import Idealize.ShloMosaic.Lib.SortPrefix
public import Mathlib.Data.EReal.Basic
public import Mathlib.Data.Prod.Lex

/-! Selection from sorted queues, with no program in sight: 128 lanes hold 2048 keys in sixteen-deep queues, each queue in
increasing order of (distance, number); sixteen rounds take the least front key and move its lane on. What the rounds
take is what a stable sort by distance puts at its first sixteen places. -/

@[expose] public section

noncomputable section

namespace Cert.Knn

open Idealize.ShloMosaic

/-- A key's place in the order: its distance, then its number. -/
def ent (d : Fin 2048 → EReal) (q : Fin 2048) : EReal ×ₗ EReal := toLex (d q, ((q.val : ℝ) : EReal))

theorem ent_injective (d : Fin 2048 → EReal) : Function.Injective (ent d) := fun a b h => by
  have h2 := congrArg (fun x => (ofLex x).2) h
  have h3 : ((a.val : ℝ) : EReal) = ((b.val : ℝ) : EReal) := h2
  exact Fin.ext (by exact_mod_cast h3)

theorem ent_lt_iff (d : Fin 2048 → EReal) (a b : Fin 2048) : ent d a < ent d b ↔ d a < d b ∨ (d a = d b ∧ a < b) := by
  unfold ent
  rw [Prod.Lex.toLex_lt_toLex]
  refine or_congr Iff.rfl (and_congr Iff.rfl ?_)
  show ((a.val : ℝ) : EReal) < ((b.val : ℝ) : EReal) ↔ a < b
  rw [Fin.lt_def]
  exact_mod_cast Iff.rfl

/-- "Key `a` is strictly nearer than key `b`, or as near and of lesser number." -/
def nearer (d : Fin 2048 → EReal) (a b : Fin 2048) : Bool := decide (ent d a < ent d b)

theorem nearer_strict (d : Fin 2048 → EReal) : StrictTotalBefore (nearer d) where
  irrefl a := by simp [nearer]
  trans a b c h h' := by
    simp only [nearer, decide_eq_true_eq] at *; exact h.trans h'
  total a b h := by
    simp only [nearer, decide_eq_true_eq]
    exact lt_or_gt_of_ne fun e => h (ent_injective d e)

/-- The lane with the least value. -/
def least {α : Type*} [LinearOrder α] (f : Fin 128 → α) : Fin 128 :=
  Classical.choose (Finset.exists_min_image Finset.univ f Finset.univ_nonempty)

theorem least_le {α : Type*} [LinearOrder α] (f : Fin 128 → α) (l : Fin 128) : f (least f) ≤ f l :=
  (Classical.choose_spec (Finset.exists_min_image Finset.univ f Finset.univ_nonempty)).2 l (Finset.mem_univ l)

/-- How far each lane's queue has moved after `k` rounds. -/
def moved (d : Fin 2048 → EReal) (κ : Fin 128 → ℕ → Fin 2048) : ℕ → Fin 128 → ℕ
  | 0 => fun _ => 0
  | k + 1 => fun l =>
    moved d κ k l + if l = least (fun l => ent d (κ l (moved d κ k l))) then 1 else 0

/-- The lane round `k` takes from. -/
def lane (d : Fin 2048 → EReal) (κ : Fin 128 → ℕ → Fin 2048) (k : ℕ) : Fin 128 :=
  least fun l => ent d (κ l (moved d κ k l))

/-- The key round `k` takes. -/
def taken (d : Fin 2048 → EReal) (κ : Fin 128 → ℕ → Fin 2048) (k : ℕ) : Fin 2048 :=
  κ (lane d κ k) (moved d κ k (lane d κ k))

section
variable (d : Fin 2048 → EReal) (κ : Fin 128 → ℕ → Fin 2048)

theorem moved_succ (k : ℕ) (l : Fin 128) :
    moved d κ (k + 1) l = moved d κ k l + if l = lane d κ k then 1 else 0 := rfl

theorem moved_le (k : ℕ) (l : Fin 128) : moved d κ k l ≤ k := by
  induction k with
  | zero => exact le_refl 0
  | succ k ih => rw [moved_succ]; split <;> omega

theorem moved_mono {k k' : ℕ} (h : k ≤ k') (l : Fin 128) : moved d κ k l ≤ moved d κ k' l := by
  induction h with
  | refl => exact le_refl _
  | step _ ih => rw [moved_succ]; omega

theorem taken_le_front (k : ℕ) (l : Fin 128) : ent d (taken d κ k) ≤ ent d (κ l (moved d κ k l)) :=
  least_le (fun l => ent d (κ l (moved d κ k l))) l

variable (hs : ∀ l i j, i ≤ j → j < 16 → ent d (κ l i) ≤ ent d (κ l j))
  (hi : ∀ l i l' j, i < 16 → j < 16 → κ l i = κ l' j → l = l' ∧ i = j)
  (ho : ∀ q, ∃ l j, j < 16 ∧ κ l j = q)

include hs hi in
theorem taken_lt {k k' : ℕ} (h : k < k') (h' : k' < 16) : ent d (taken d κ k) < ent d (taken d κ k') := by
  have h1 := moved_le d κ k' (lane d κ k')
  have h2 : ent d (taken d κ k) ≤ ent d (taken d κ k') :=
    (taken_le_front d κ k (lane d κ k')).trans (hs _ _ _ (moved_mono d κ h.le _) (by omega))
  refine lt_of_le_of_ne h2 fun e => ?_
  have h3 := moved_le d κ k (lane d κ k)
  obtain ⟨el, em⟩ := hi _ _ _ _ (by omega) (by omega) (ent_injective d e)
  have h4 := moved_mono d κ (show k + 1 ≤ k' from h) (lane d κ k)
  rw [moved_succ, if_pos rfl] at h4
  rw [← el] at em
  omega

theorem moved_le_of_not_taken (l : Fin 128) (j : ℕ) (k : ℕ) (h : ∀ i, i < k → taken d κ i ≠ κ l j) : moved d κ k l ≤ j := by
  induction k with
  | zero => exact Nat.zero_le j
  | succ k ih =>
    have h1 := ih fun i hik => h i (by omega)
    rw [moved_succ]
    split
    · rename_i e
      rcases Nat.lt_or_ge (moved d κ k l) j with h2 | h2
      · omega
      · have h3 : moved d κ k l = j := by omega
        exact absurd (by unfold taken; rw [← e, h3]) (h k (by omega))
    · omega

include hs hi ho in
/-- What the sixteen rounds take is what the sort puts first. -/
theorem sorted_eq_taken (i : Fin 16) : sortedFrom (nearer d) (i.castLE (by omega)) = taken d κ i.val := by
  refine (nearer_strict d).sortedFrom_eq_of_prefix (by omega) (fun i : Fin 16 => taken d κ i.val) ?_ ?_ ?_ i
  · intro a b e
    by_contra hne
    rcases lt_or_gt_of_ne (fun e' => hne (Fin.ext e') : a.val ≠ b.val) with h | h
    · exact absurd (congrArg (ent d) e) (taken_lt d κ hs hi h b.isLt).ne
    · exact absurd (congrArg (ent d) e) (taken_lt d κ hs hi h a.isLt).ne'
  · intro a b hab
    simp only [nearer, decide_eq_false_iff_not, not_lt]
    exact (taken_lt d κ hs hi hab b.isLt).le
  · intro a p hp
    simp only [nearer, decide_eq_false_iff_not, not_lt]
    obtain ⟨l, j, hj, rfl⟩ := ho p
    have h1 := moved_le_of_not_taken d κ l j a.val fun i hi' => hp ⟨i, by omega⟩
    exact (taken_le_front d κ a.val l).trans (hs l _ j h1 hj)

end

/-- Equal sorted lists of positions name the same position at each place. -/
theorem sortedFrom_of_positions {n : ℕ} {R R' : Fin n → Fin n → Bool} (e : sortPositions n R = sortPositions n R') (k : Fin n) :
    sortedFrom R k = sortedFrom R' k := by
  unfold sortedFrom
  simp only [List.get_eq_getElem, e]
  rfl

/-- A stable sort that compares distances alone is the sort by distance and then number. -/
theorem stable_eq (d : Fin 2048 → EReal) (R : Fin 2048 → Fin 2048 → Bool) (hR : ∀ a b, R a b = decide (d a < d b)) (k : Fin 2048) :
    sortedFrom R k = sortedFrom (nearer d) k := by
  have key : ∀ l : List (Fin 2048), l.Pairwise (· < ·) → stableSort R l = stableSort (nearer d) l := by
    intro l hl
    induction l with
    | nil => rfl
    | cons a l ih =>
      rw [List.pairwise_cons] at hl
      show insertBefore R a (stableSort R l) = insertBefore (nearer d) a (stableSort (nearer d) l)
      rw [ih hl.2]
      refine insertBefore_congr _ _ _ _ fun b hb => ?_
      have hab := hl.1 b ((perm_stableSort _ l).mem_iff.mp hb)
      rw [hR, nearer]
      refine decide_eq_decide.mpr ?_
      rw [ent_lt_iff]
      constructor
      · exact Or.inl
      · rintro (h | ⟨_, h⟩)
        · exact h
        · exact absurd h (not_lt.mpr hab.le)
  have e : sortPositions 2048 R = sortPositions 2048 (nearer d) := key _ (List.pairwise_lt_finRange 2048)
  exact sortedFrom_of_positions e k

end Cert.Knn

end
-- ==== Proof.Order.lean ====
module

public import proofs.«01_k».proof.Proof.Model
public import proofs.«01_k».proof.Proof.Rounds
public import Idealize.ShloMosaic.Lib.SortNet.OddEvenSort
public import Idealize.ShloMosaic.Lib.Pointwise
public import Idealize.ShloMosaic.PureOps.Ideal.Laws

/-! The model's planes read at one row, over the extended reals: the exchanges sort each lane's sixteen entries, the picks are
the least entries, the shifts move one lane's queue. -/

@[expose] public section

noncomputable section

namespace Cert.KernelIdeal.Gen

open Idealize.ShloMosaic Idealize.ShloMosaic.SortNet Cert.Knn

/-- The entry of a plane at an index: value, then number, in lexicographic order. -/
def at_ (q : Pl Ideal × Pl Ideal) (x : S1024x128.Idx) : EReal ×ₗ EReal := toLex (q.1 x, q.2 x)

theorem before_apply (q p : Pl Ideal × Pl Ideal) (x : S1024x128.Idx) :
    before q p x = BitVec.ofBool (decide (at_ q x < at_ p x)) := by
  have e : (at_ q x < at_ p x) ↔ (q.1 x < p.1 x ∨ (q.1 x = p.1 x ∧ q.2 x < p.2 x)) := by
    unfold at_; rw [Prod.Lex.toLex_lt_toLex]
  show IntOp.ori (BitVec.ofBool (decide (q.1 x < p.1 x))) (IntOp.andi (BitVec.ofBool (decide (q.1 x = p.1 x))) (BitVec.ofBool (decide (q.2 x < p.2 x)))) = _
  by_cases h1 : q.1 x < p.1 x <;> by_cases h2 : q.1 x = p.1 x <;> by_cases h3 : q.2 x < p.2 x <;> simp [e, h1, h2, h3] <;> rfl

theorem select_ofBool {α : Type} (b : Prop) [Decidable b] (x y : α) :
    Scalar.select (BitVec.ofBool (decide b)) x y = if b then x else y := by
  by_cases h : b <;> simp [h, Scalar.select]

/-- Selecting both parts by "goes before" keeps one of the two entries. -/
theorem at_select (q p : Pl Ideal × Pl Ideal) (u v : Pl Ideal × Pl Ideal) (x : S1024x128.Idx) :
    at_ (select (before q p) u.1 v.1, select (before q p) u.2 v.2) x = if at_ q x < at_ p x then at_ u x else at_ v x := by
  have e1 : select (before q p) u.1 v.1 x = if at_ q x < at_ p x then u.1 x else v.1 x := by
    show Scalar.select (before q p x) _ _ = _
    rw [before_apply, select_ofBool]
  have e2 : select (before q p) u.2 v.2 x = if at_ q x < at_ p x then u.2 x else v.2 x := by
    show Scalar.select (before q p x) _ _ = _
    rw [before_apply, select_ofBool]
  unfold at_ at *
  dsimp only at *
  rw [e1, e2]
  split <;> rfl

/-- The sixteen entries of one lane, in the reversed order (the library's networks put the greater entry first). -/
def col (σ : ℕ → Pl Ideal × Pl Ideal) (x : S1024x128.Idx) : Fin 16 → (EReal ×ₗ EReal)ᵒᵈ := fun j => OrderDual.toDual (at_ (σ j.val) x)

theorem col_exch (σ : ℕ → Pl Ideal × Pl Ideal) (x : S1024x128.Idx) (a b : ℕ) (ha : a < 16) (hb : b < 16) (hab : b ≠ a) :
    col (exch σ (a, b)) x
      = Cmpx.apply (⟨⟨b, hb⟩, ⟨a, ha⟩, fun e => hab (Fin.val_eq_of_eq e)⟩ : Cmpx 16) (col σ x) := by
  funext j
  unfold col Cmpx.apply exch
  dsimp only
  by_cases h1 : j.val = a
  · have n1 : j ≠ ⟨b, hb⟩ := fun e => hab (by rw [← h1, e])
    have n2 : j = ⟨a, ha⟩ := Fin.ext h1
    rw [if_pos h1, if_neg n1, if_pos n2, at_select]
    refine congrArg OrderDual.toDual (a₂ := min (at_ (σ b) x) (at_ (σ a) x)) ?_
    split
    · rename_i h; exact (min_eq_left h.le).symm
    · rename_i h; exact (min_eq_right (not_lt.mp h)).symm
  · rw [if_neg h1]
    have n2 : j ≠ ⟨a, ha⟩ := fun e => h1 (by rw [e])
    by_cases h2 : j.val = b
    · have n1 : j = ⟨b, hb⟩ := Fin.ext h2
      rw [if_pos h2, if_pos n1, at_select]
      refine congrArg OrderDual.toDual (a₂ := max (at_ (σ b) x) (at_ (σ a) x)) ?_
      split
      · rename_i h; exact (max_eq_right h.le).symm
      · rename_i h; exact (max_eq_left (not_lt.mp h)).symm
    · have n1 : j ≠ ⟨b, hb⟩ := fun e => h2 (by rw [e])
      rw [if_neg h2, if_neg n1, if_neg n2]

theorem col_foldl (ps : List (ℕ × ℕ)) (hp : ∀ ab ∈ ps, ab.2 < 16 ∧ ab.1 < 16 ∧ ab.2 ≠ ab.1) (σ : ℕ → Pl Ideal × Pl Ideal) (x : S1024x128.Idx) :
    col (ps.foldl exch σ) x = Network.apply (Network.ofPairs 16 ps) (col σ x) := by
  induction ps generalizing σ with
  | nil => rfl
  | cons ab ps ih =>
    obtain ⟨hb, ha, hne⟩ := hp ab List.mem_cons_self
    have e : Network.ofPairs 16 (ab :: ps) = ⟨⟨ab.2, hb⟩, ⟨ab.1, ha⟩, fun e => hne (Fin.val_eq_of_eq e)⟩ :: Network.ofPairs 16 ps := by
      unfold Network.ofPairs
      rw [List.filterMap_cons, dif_pos ⟨hb, ha, hne⟩]
    rw [e, Network.apply_cons, List.foldl_cons, ih fun ab h => hp ab (List.mem_cons_of_mem _ h)]
    rw [← col_exch σ x ab.1 ab.2 ha hb hne]

theorem col_sorted (σ : ℕ → Pl Ideal × Pl Ideal) (x : S1024x128.Idx) :
    col (pairs.foldl exch σ) x = Network.apply (oddEvenNet 4) (col σ x) := by
  have e : oddEvenNet 4 = Network.ofPairs 16 pairs := by
    unfold oddEvenNet; rw [oddEvenPairs_four]; rfl
  rw [e]
  exact col_foldl pairs (by decide) σ x

/-- After the exchanges a lane's entries are its entries before, rearranged and in increasing order. -/
theorem sorted_lane (σ : ℕ → Pl Ideal × Pl Ideal) (x : S1024x128.Idx) :
    ∃ π : Equiv.Perm (Fin 16), (∀ j : Fin 16, at_ (pairs.foldl exch σ j.val) x = at_ (σ (π j).val) x)
      ∧ ∀ i j : Fin 16, i ≤ j → at_ (σ (π i).val) x ≤ at_ (σ (π j).val) x := by
  obtain ⟨π, hπ⟩ := Network.exists_perm (oddEvenNet 4) (col σ x)
  have h := (col_sorted σ x).trans hπ
  refine ⟨π, fun j => congrFun h j, fun i j hij => ?_⟩
  have hm := oddEvenNet_antitone 4 (col σ x) hij
  rw [hπ] at hm
  exact hm

end Cert.KernelIdeal.Gen

end
-- ==== Proof.Select.lean ====
module

public import proofs.«01_k».proof.Proof.Order

/-! The rounds of the model read at one row: each pick is the number of the least front entry, each shift moves that entry's
lane, and after `k` rounds the planes hold the queues moved on as the abstract rounds say. -/

@[expose] public section

noncomputable section

namespace Cert.KernelIdeal.Gen

open Idealize.ShloMosaic Idealize.ShloMosaic.SortNet Cert.Knn

theorem ofBits_top : Ideal.ofBits .f32 0x7F800000#32 = ⊤ := by simp [Ideal.ofBits, Ideal.ieee]

theorem ofBits_2048 : Ideal.ofBits .f32 0x45000000#32 = ((2048 : ℝ) : EReal) := by
  simp [Ideal.ofBits, Ideal.ieee, -EReal.coe_mul]; norm_num

/-- A row's minimum is the value at the lane with the least. -/
theorem rowMin_apply (v : Pl Ideal) (r : Fin 1024) :
    rowMin v (ix2 r 0) = v (ix2 r (least fun l => v (ix2 r l))) := by
  have h : rowMin v (ix2 r 0) = (Finset.univ : Finset (Fin 128)).fold min ⊤ fun l => v (ix2 r l) := by
    pointwise [rowMin]
    rw [ofBits_top]
  rw [h]
  apply le_antisymm
  · exact (Finset.fold_min_le _).mpr (Or.inr ⟨_, Finset.mem_univ _, le_refl _⟩)
  · exact Finset.le_fold_min _ |>.mpr ⟨le_top, fun l _ => least_le (fun l => v (ix2 r l)) l⟩

theorem spread_apply (v : FVec Ideal S1024x1 .f32) (r : Fin 1024) (l : Fin 128) : spread v (ix2 r l) = v (ix2 r 0) := by
  pointwise [spread]

theorem le_of_ent_le {d : Fin 2048 → EReal} {a b : Fin 2048} (h : ent d a ≤ ent d b) : d a ≤ d b := by
  by_contra h'
  exact absurd ((ent_lt_iff d b a).mpr (Or.inl (not_le.mp h'))) (not_lt.mpr h)

section
variable (q : Pl Ideal × Pl Ideal) (r : Fin 1024) (d : Fin 2048 → EReal) (f : Fin 128 → Fin 2048)
  (h : ∀ l, at_ q (ix2 r l) = ent d (f l))

include h in
theorem fst_of_at (l : Fin 128) : q.1 (ix2 r l) = d (f l) := congrArg (fun x => (ofLex x).1) (h l)

include h in
theorem snd_of_at (l : Fin 128) : q.2 (ix2 r l) = (((f l).val : ℝ) : EReal) := congrArg (fun x => (ofLex x).2) (h l)

include h in
/-- The least front value is that of the least front entry. -/
theorem rowMin_at : rowMin q.1 (ix2 r 0) = d (f (least fun l => ent d (f l))) := by
  rw [rowMin_apply]
  apply le_antisymm
  · rw [← fst_of_at q r d f h]; exact least_le (fun l => q.1 (ix2 r l)) _
  · rw [fst_of_at q r d f h]; exact le_of_ent_le (least_le (fun l => ent d (f l)) _)

include h in
/-- The pick is the number of the least front entry. -/
theorem pick_at : pick q (ix2 r 0) = (((f (least fun l => ent d (f l))).val : ℝ) : EReal) := by
  have hu : ∀ l, select (cmpf .oeq q.1 (spread (rowMin q.1))) q.2 (broadcast S1024x128 (Scalar.ofBits .f32 0x45000000#32)) (ix2 r l)
      = if d (f l) = d (f (least fun l => ent d (f l))) then (((f l).val : ℝ) : EReal) else ((2048 : ℝ) : EReal) := by
    intro l
    show Scalar.select (BitVec.ofBool (decide (q.1 (ix2 r l) = spread (rowMin q.1) (ix2 r l)))) (q.2 (ix2 r l)) (Ideal.ofBits .f32 0x45000000#32) = _
    rw [select_ofBool, spread_apply, rowMin_at q r d f h, fst_of_at q r d f h, snd_of_at q r d f h, ofBits_2048]
  unfold pick
  rw [rowMin_apply]
  apply le_antisymm
  · refine (least_le (fun l => select (cmpf .oeq q.1 (spread (rowMin q.1))) q.2 (broadcast S1024x128 (Scalar.ofBits .f32 0x45000000#32)) (ix2 r l)) (least fun l => ent d (f l))).trans ?_
    rw [hu, if_pos rfl]
  · rw [hu]
    split
    · rename_i e
      have h1 := least_le (fun l => ent d (f l)) (least fun l => select (cmpf .oeq q.1 (spread (rowMin q.1))) q.2 (broadcast S1024x128 (Scalar.ofBits .f32 0x45000000#32)) (ix2 r l))
      have h2 := (not_congr (ent_lt_iff d _ _)).mp (not_lt.mpr h1)
      have h3 : f (least fun l => ent d (f l)) ≤ f (least fun l => select (cmpf .oeq q.1 (spread (rowMin q.1))) q.2 (broadcast S1024x128 (Scalar.ofBits .f32 0x45000000#32)) (ix2 r l)) :=
        not_lt.mp fun hl => h2 (Or.inr ⟨e, hl⟩)
      have h4 := Fin.le_def.mp h3
      exact_mod_cast h4
    · have h1 := (f (least fun l => ent d (f l))).isLt
      have h2 : (f (least fun l => ent d (f l))).val ≤ 2048 := by omega
      exact_mod_cast h2

include h in
/-- The shift is of the lane of the least front entry, and of no other. -/
theorem picked_at (hf : Function.Injective f) (l : Fin 128) :
    picked q (ix2 r l) = BitVec.ofBool (decide (l = least fun l => ent d (f l))) := by
  show BitVec.ofBool (decide (q.2 (ix2 r l) = spread (pick q) (ix2 r l))) = _
  rw [spread_apply, pick_at q r d f h, snd_of_at q r d f h]
  refine congrArg BitVec.ofBool (decide_eq_decide.mpr ⟨fun e => hf (Fin.ext ?_), fun e => by rw [← e]⟩)
  exact_mod_cast e

end

theorem at_pop (σ : ℕ → Pl Ideal × Pl Ideal) (j : ℕ) (x : S1024x128.Idx) (b : Prop) [Decidable b]
    (hb : picked (σ 0) x = BitVec.ofBool (decide b)) :
    at_ (pop σ j) x = if b then at_ (σ (j + 1)) x else at_ (σ j) x := by
  have e1 : (pop σ j).1 x = if b then (σ (j + 1)).1 x else (σ j).1 x := by
    show Scalar.select (picked (σ 0) x) _ _ = _
    rw [hb, select_ofBool]
  have e2 : (pop σ j).2 x = if b then (σ (j + 1)).2 x else (σ j).2 x := by
    show Scalar.select (picked (σ 0) x) _ _ = _
    rw [hb, select_ofBool]
  unfold at_
  rw [e1, e2]
  split <;> rfl

section
variable (z : ℕ → Pl Ideal × Pl Ideal) (r : Fin 1024) (d : Fin 2048 → EReal)

/-- The key held at lane `l` of plane `p` before the exchanges. -/
def keyAt (l : Fin 128) (p : Fin 16) : Fin 2048 := ⟨128 * p.val + l.val, by omega⟩

/-- The queues after the exchanges: each lane's keys, in increasing order, every key once. -/
theorem exists_queues (hz : ∀ (p : Fin 16) (l : Fin 128), at_ (z p.val) (ix2 r l) = ent d (keyAt l p)) :
    ∃ κ : Fin 128 → ℕ → Fin 2048, (∀ l j, j < 16 → at_ (queues z 0 j) (ix2 r l) = ent d (κ l j))
      ∧ (∀ l i j, i ≤ j → j < 16 → ent d (κ l i) ≤ ent d (κ l j))
      ∧ (∀ l i l' j, i < 16 → j < 16 → κ l i = κ l' j → l = l' ∧ i = j)
      ∧ ∀ q, ∃ l j, j < 16 ∧ κ l j = q := by
  choose π h1 h2 using fun l : Fin 128 => sorted_lane z (ix2 r l)
  have e : ∀ l j (hj : j < 16), keyAt l (π l ⟨j % 16, Nat.mod_lt _ (by omega)⟩) = keyAt l (π l ⟨j, hj⟩) := fun l j hj => by
    simp only [Nat.mod_eq_of_lt hj]
  refine ⟨fun l j => keyAt l (π l ⟨j % 16, Nat.mod_lt _ (by omega)⟩), ?_, ?_, ?_, ?_⟩
  · intro l j hj
    dsimp only
    rw [e l j hj, ← hz]
    exact h1 l ⟨j, hj⟩
  · intro l i j hij hj
    dsimp only
    rw [e l i (by omega), e l j hj, ← hz, ← hz]
    exact h2 l ⟨i, by omega⟩ ⟨j, hj⟩ hij
  · intro l i l' j hi hj hh
    dsimp only at hh
    rw [e l i hi, e l' j hj] at hh
    have hv := congrArg Fin.val hh
    dsimp only [keyAt] at hv
    have hl : l = l' := Fin.ext (by omega)
    subst hl
    have hp : π l ⟨i, hi⟩ = π l ⟨j, hj⟩ := Fin.ext (by omega)
    exact ⟨rfl, congrArg Fin.val ((π l).injective hp)⟩
  · intro q
    refine ⟨⟨q.val % 128, Nat.mod_lt _ (by omega)⟩, ((π ⟨q.val % 128, Nat.mod_lt _ (by omega)⟩).symm ⟨q.val / 128, by omega⟩).val, Fin.isLt _, ?_⟩
    dsimp only
    rw [e _ _ (Fin.isLt _)]
    simp only [Fin.eta, Equiv.apply_symm_apply]
    exact Fin.ext (by dsimp only [keyAt]; omega)

variable (κ : Fin 128 → ℕ → Fin 2048) (hq : ∀ l j, j < 16 → at_ (queues z 0 j) (ix2 r l) = ent d (κ l j))
  (hi : ∀ l i l' j, i < 16 → j < 16 → κ l i = κ l' j → l = l' ∧ i = j)

include hq hi in
/-- After `k` rounds the planes hold the queues moved on. -/
theorem queues_at (k : ℕ) (hk : k < 16) : ∀ (l : Fin 128) (j : ℕ), j + moved d κ k l < 16 →
    at_ (queues z k j) (ix2 r l) = ent d (κ l (j + moved d κ k l)) := by
  induction k with
  | zero => exact fun l j h => hq l j h
  | succ k ih =>
    intro l j hj
    have ih := ih (by omega)
    have hfront : ∀ l, at_ (queues z k 0) (ix2 r l) = ent d (κ l (moved d κ k l)) := fun l => by
      have h0 := moved_le d κ k l
      have h1 := ih l 0 (by omega)
      rwa [Nat.zero_add] at h1
    have hinj : Function.Injective fun l => κ l (moved d κ k l) := fun a b e => by
      have h0 := moved_le d κ k a
      have h1 := moved_le d κ k b
      exact (hi _ _ _ _ (by omega) (by omega) e).1
    have hp := picked_at (queues z k 0) r d _ hfront hinj l
    show at_ (pop (queues z k) j) (ix2 r l) = _
    rw [at_pop _ _ _ _ hp]
    rw [moved_succ] at hj ⊢
    unfold lane at hj ⊢
    by_cases e : l = least fun l => ent d (κ l (moved d κ k l))
    · rw [if_pos e] at hj
      rw [if_pos e, if_pos e]
      rw [ih l (j + 1) (by omega)]
      congr 2
      omega
    · rw [if_neg e] at hj
      rw [if_neg e, if_neg e]
      exact ih l j hj

include hq hi in
/-- Round `k` picks the number of the key that the abstract round takes. -/
theorem pick_round (k : ℕ) (hk : k < 16) : pick (queues z k 0) (ix2 r 0) = (((taken d κ k).val : ℝ) : EReal) := by
  refine pick_at (queues z k 0) r d (fun l => κ l (moved d κ k l)) fun l => ?_
  have h0 := moved_le d κ k l
  have h1 := queues_at z r d κ hq hi k hk l 0 (by omega)
  rwa [Nat.zero_add] at h1

end

/-- The picks of planes that hold the keys of one row are the first sixteen of the sort by distance and number. -/
theorem pick_sorted (z : ℕ → Pl Ideal × Pl Ideal) (r : Fin 1024) (d : Fin 2048 → EReal)
    (hz : ∀ (p : Fin 16) (l : Fin 128), at_ (z p.val) (ix2 r l) = ent d (keyAt l p)) (k : Fin 16) :
    pick (queues z k.val 0) (ix2 r 0) = (((sortedFrom (nearer d) (k.castLE (by omega))).val : ℝ) : EReal) := by
  obtain ⟨κ, hq, hs, hi, ho⟩ := exists_queues z r d hz
  rw [pick_round z r d κ hq hi k.val k.isLt, sorted_eq_taken d κ hs hi ho k]

end Cert.KernelIdeal.Gen

end
-- ==== Proof.Tile.lean ====
module

public import proofs.«01_k».proof.Proof.Select

/-! The tile's result as words: at row `r` and place `k`, the number of the key that the sort by distance and number puts at
place `k`. -/

@[expose] public section

noncomputable section

namespace Cert.KernelIdeal.Gen

open Idealize.ShloMosaic Idealize.ShloMosaic.SortNet Cert.Knn

/-- The lane numbers as extended reals. -/
theorem lanes_apply (r : Fin 1024) (l : Fin 128) : (k0_pay5 : Pl Ideal) (ix2 r l) = ((l.val : ℝ) : EReal) := by
  have h : (k0_pay5 : Pl Ideal) (ix2 r l) = (((BitVec.ofNat 32 l.val).toInt : ℝ) : EReal) := by
    pointwise [k0_pay5]
    rfl
  rw [h, BitVec.toInt_eq_toNat_of_lt (by rw [BitVec.toNat_ofNat]; have := l.isLt; omega), BitVec.toNat_ofNat,
    Nat.mod_eq_of_lt (by have := l.isLt; omega)]
  norm_cast

/-- The distances of one row of the tile. -/
def dist (v0 : Vec Ideal S1x1024x64 .f32) (v2 : Vec Ideal S1x64x2048 .f32) (r : Fin 1024) (q : Fin 2048) : EReal :=
  k0_pay4 v0 v2 (ix2 r q)

/-- An entry of a plane, from its value and its number. -/
theorem at_eq {d : Fin 2048 → EReal} {q : Fin 2048} {p : Pl Ideal × Pl Ideal} {x : S1024x128.Idx} (h1 : p.1 x = d q)
    (h2 : p.2 x = ((q.val : ℝ) : EReal)) : at_ p x = ent d q := by
  unfold at_ ent; rw [h1, h2]

/-- The number of a lane plus a plane's first number. -/
theorem number_eq {b : BitVec 32} {n : ℕ} (hb : Ideal.ofBits .f32 b = ((n : ℝ) : EReal)) (l : Fin 128) :
    ((l.val : ℝ) : EReal) + Ideal.ofBits .f32 b = (((n + l.val : ℕ) : ℝ) : EReal) := by
  rw [hb, ← EReal.coe_add, add_comm]; norm_cast

theorem slice_apply (n : ℕ) (X : FVec Ideal S1024x2048 .f32) (h : S1024x2048.Slices ![0, n] S1024x128) (r : Fin 1024) (l : Fin 128)
    (hl : n + l.val < 2048) : extractStridedSlice S1024x128 ![0, n] X h (ix2 r l) = X (ix2 r ⟨n + l.val, hl⟩) := by
  pointwise

theorem ofBits_0 : Ideal.ofBits .f32 0x00000000#32 = ((0 : ℕ) : ℝ) := by
  simp [Ideal.ofBits, Ideal.ieee, -EReal.coe_mul]
theorem ofBits_128 : Ideal.ofBits .f32 0x43000000#32 = ((128 : ℕ) : ℝ) := by
  simp [Ideal.ofBits, Ideal.ieee, -EReal.coe_mul]; norm_num
theorem ofBits_256 : Ideal.ofBits .f32 0x43800000#32 = ((256 : ℕ) : ℝ) := by
  simp [Ideal.ofBits, Ideal.ieee, -EReal.coe_mul]; norm_num
theorem ofBits_384 : Ideal.ofBits .f32 0x43C00000#32 = ((384 : ℕ) : ℝ) := by
  simp [Ideal.ofBits, Ideal.ieee, -EReal.coe_mul]; norm_num
theorem ofBits_512 : Ideal.ofBits .f32 0x44000000#32 = ((512 : ℕ) : ℝ) := by
  simp [Ideal.ofBits, Ideal.ieee, -EReal.coe_mul]; norm_num
theorem ofBits_640 : Ideal.ofBits .f32 0x44200000#32 = ((640 : ℕ) : ℝ) := by
  simp [Ideal.ofBits, Ideal.ieee, -EReal.coe_mul]; norm_num
theorem ofBits_768 : Ideal.ofBits .f32 0x44400000#32 = ((768 : ℕ) : ℝ) := by
  simp [Ideal.ofBits, Ideal.ieee, -EReal.coe_mul]; norm_num
theorem ofBits_896 : Ideal.ofBits .f32 0x44600000#32 = ((896 : ℕ) : ℝ) := by
  simp [Ideal.ofBits, Ideal.ieee, -EReal.coe_mul]; norm_num
theorem ofBits_1024 : Ideal.ofBits .f32 0x44800000#32 = ((1024 : ℕ) : ℝ) := by
  simp [Ideal.ofBits, Ideal.ieee, -EReal.coe_mul]; norm_num
theorem ofBits_1152 : Ideal.ofBits .f32 0x44900000#32 = ((1152 : ℕ) : ℝ) := by
  simp [Ideal.ofBits, Ideal.ieee, -EReal.coe_mul]; norm_num
theorem ofBits_1280 : Ideal.ofBits .f32 0x44A00000#32 = ((1280 : ℕ) : ℝ) := by
  simp [Ideal.ofBits, Ideal.ieee, -EReal.coe_mul]; norm_num
theorem ofBits_1408 : Ideal.ofBits .f32 0x44B00000#32 = ((1408 : ℕ) : ℝ) := by
  simp [Ideal.ofBits, Ideal.ieee, -EReal.coe_mul]; norm_num
theorem ofBits_1536 : Ideal.ofBits .f32 0x44C00000#32 = ((1536 : ℕ) : ℝ) := by
  simp [Ideal.ofBits, Ideal.ieee, -EReal.coe_mul]; norm_num
theorem ofBits_1664 : Ideal.ofBits .f32 0x44D00000#32 = ((1664 : ℕ) : ℝ) := by
  simp [Ideal.ofBits, Ideal.ieee, -EReal.coe_mul]; norm_num
theorem ofBits_1792 : Ideal.ofBits .f32 0x44E00000#32 = ((1792 : ℕ) : ℝ) := by
  simp [Ideal.ofBits, Ideal.ieee, -EReal.coe_mul]; norm_num
theorem ofBits_1920 : Ideal.ofBits .f32 0x44F00000#32 = ((1920 : ℕ) : ℝ) := by
  simp [Ideal.ofBits, Ideal.ieee, -EReal.coe_mul]; norm_num

/-- Before the exchanges lane `l` of plane `p` holds the distance to key `128 p + l` and that number. -/
theorem planes_at (v0 : Vec Ideal S1x1024x64 .f32) (v2 : Vec Ideal S1x64x2048 .f32) (r : Fin 1024) (l : Fin 128) :
    (p : Fin 16) → at_ (planes v0 v2 p.val) (ix2 r l) = ent (dist v0 v2 r) (keyAt l p)
  | ⟨0, h⟩ => at_eq (slice_apply 0 (k0_pay4 v0 v2) slices_S1024x2048_o0_0_S1024x128 r l (keyAt l ⟨0, h⟩).isLt)
      ((congrArg (· + Ideal.ofBits .f32 0x00000000#32) (lanes_apply r l)).trans (number_eq ofBits_0 l))
  | ⟨1, h⟩ => at_eq (slice_apply 128 (k0_pay4 v0 v2) slices_S1024x2048_o0_128_S1024x128 r l (keyAt l ⟨1, h⟩).isLt)
      ((congrArg (· + Ideal.ofBits .f32 0x43000000#32) (lanes_apply r l)).trans (number_eq ofBits_128 l))
  | ⟨2, h⟩ => at_eq (slice_apply 256 (k0_pay4 v0 v2) slices_S1024x2048_o0_256_S1024x128 r l (keyAt l ⟨2, h⟩).isLt)
      ((congrArg (· + Ideal.ofBits .f32 0x43800000#32) (lanes_apply r l)).trans (number_eq ofBits_256 l))
  | ⟨3, h⟩ => at_eq (slice_apply 384 (k0_pay4 v0 v2) slices_S1024x2048_o0_384_S1024x128 r l (keyAt l ⟨3, h⟩).isLt)
      ((congrArg (· + Ideal.ofBits .f32 0x43C00000#32) (lanes_apply r l)).trans (number_eq ofBits_384 l))
  | ⟨4, h⟩ => at_eq (slice_apply 512 (k0_pay4 v0 v2) slices_S1024x2048_o0_512_S1024x128 r l (keyAt l ⟨4, h⟩).isLt)
      ((congrArg (· + Ideal.ofBits .f32 0x44000000#32) (lanes_apply r l)).trans (number_eq ofBits_512 l))
  | ⟨5, h⟩ => at_eq (slice_apply 640 (k0_pay4 v0 v2) slices_S1024x2048_o0_640_S1024x128 r l (keyAt l ⟨5, h⟩).isLt)
      ((congrArg (· + Ideal.ofBits .f32 0x44200000#32) (lanes_apply r l)).trans (number_eq ofBits_640 l))
  | ⟨6, h⟩ => at_eq (slice_apply 768 (k0_pay4 v0 v2) slices_S1024x2048_o0_768_S1024x128 r l (keyAt l ⟨6, h⟩).isLt)
      ((congrArg (· + Ideal.ofBits .f32 0x44400000#32) (lanes_apply r l)).trans (number_eq ofBits_768 l))
  | ⟨7, h⟩ => at_eq (slice_apply 896 (k0_pay4 v0 v2) slices_S1024x2048_o0_896_S1024x128 r l (keyAt l ⟨7, h⟩).isLt)
      ((congrArg (· + Ideal.ofBits .f32 0x44600000#32) (lanes_apply r l)).trans (number_eq ofBits_896 l))
  | ⟨8, h⟩ => at_eq (slice_apply 1024 (k0_pay4 v0 v2) slices_S1024x2048_o0_1024_S1024x128 r l (keyAt l ⟨8, h⟩).isLt)
      ((congrArg (· + Ideal.ofBits .f32 0x44800000#32) (lanes_apply r l)).trans (number_eq ofBits_1024 l))
  | ⟨9, h⟩ => at_eq (slice_apply 1152 (k0_pay4 v0 v2) slices_S1024x2048_o0_1152_S1024x128 r l (keyAt l ⟨9, h⟩).isLt)
      ((congrArg (· + Ideal.ofBits .f32 0x44900000#32) (lanes_apply r l)).trans (number_eq ofBits_1152 l))
  | ⟨10, h⟩ => at_eq (slice_apply 1280 (k0_pay4 v0 v2) slices_S1024x2048_o0_1280_S1024x128 r l (keyAt l ⟨10, h⟩).isLt)
      ((congrArg (· + Ideal.ofBits .f32 0x44A00000#32) (lanes_apply r l)).trans (number_eq ofBits_1280 l))
  | ⟨11, h⟩ => at_eq (slice_apply 1408 (k0_pay4 v0 v2) slices_S1024x2048_o0_1408_S1024x128 r l (keyAt l ⟨11, h⟩).isLt)
      ((congrArg (· + Ideal.ofBits .f32 0x44B00000#32) (lanes_apply r l)).trans (number_eq ofBits_1408 l))
  | ⟨12, h⟩ => at_eq (slice_apply 1536 (k0_pay4 v0 v2) slices_S1024x2048_o0_1536_S1024x128 r l (keyAt l ⟨12, h⟩).isLt)
      ((congrArg (· + Ideal.ofBits .f32 0x44C00000#32) (lanes_apply r l)).trans (number_eq ofBits_1536 l))
  | ⟨13, h⟩ => at_eq (slice_apply 1664 (k0_pay4 v0 v2) slices_S1024x2048_o0_1664_S1024x128 r l (keyAt l ⟨13, h⟩).isLt)
      ((congrArg (· + Ideal.ofBits .f32 0x44D00000#32) (lanes_apply r l)).trans (number_eq ofBits_1664 l))
  | ⟨14, h⟩ => at_eq (slice_apply 1792 (k0_pay4 v0 v2) slices_S1024x2048_o0_1792_S1024x128 r l (keyAt l ⟨14, h⟩).isLt)
      ((congrArg (· + Ideal.ofBits .f32 0x44E00000#32) (lanes_apply r l)).trans (number_eq ofBits_1792 l))
  | ⟨15, h⟩ => at_eq (slice_apply 1920 (k0_pay4 v0 v2) slices_S1024x2048_o0_1920_S1024x128 r l (keyAt l ⟨15, h⟩).isLt)
      ((congrArg (· + Ideal.ofBits .f32 0x44F00000#32) (lanes_apply r l)).trans (number_eq ofBits_1920 l))
  | ⟨n + 16, h⟩ => absurd h (by omega)

theorem word_of_real (n : ℕ) (h : n < 2048) : Ideal.fptosi 32 ((n : ℝ) : EReal) = BitVec.ofNat 32 n := by
  unfold Ideal.fptosi
  rw [Ideal.toIntClamped_coe, if_pos (Nat.cast_nonneg n), Int.floor_natCast]
  rw [min_eq_right (by norm_num; omega), max_eq_right (by norm_num)]
  rfl

/-- Column `k` of the picks is round `k`'s pick, as a word. -/
theorem picks_apply (z : ℕ → Pl Ideal × Pl Ideal) (r : Fin 1024) (k : Fin 16) :
    picks z (ix3 0 r k) = Ideal.fptosi 32 (pick (queues z k.val 0) (ix2 r 0)) := by
  have gen : ∀ C : FVec Ideal S1024x16 .f32,
      shapeCast S1x1024x16 (fptosi 32 C) shapeCasts_S1024x16_S1x1024x16 (ix3 0 r k) = Ideal.fptosi 32 (C (ix2 r k)) := by
    intro C
    pointwise
    rfl
  unfold picks
  rw [gen]
  refine congrArg (Ideal.fptosi 32) ?_
  refine concatenate_ofFn_unit_apply (t := S1024x16) (s₁ := S1024x1) 1 (fun n : Fin 16 => pick (queues z n.val 0)) _ rfl rfl
    (ix2 r k) k rfl (ix2 r 0) ?_
  intro b hb
  match b with
  | ⟨0, _⟩ => rfl
  | ⟨1, _⟩ => exact absurd rfl hb

/-- The tile's result at row `r` and place `k`. -/
theorem picks_sorted (v0 : Vec Ideal S1x1024x64 .f32) (v2 : Vec Ideal S1x64x2048 .f32) (r : Fin 1024) (k : Fin 16) :
    picks (planes v0 v2) (ix3 0 r k)
      = BitVec.ofNat 32 (sortedFrom (nearer (dist v0 v2 r)) (k.castLE (by omega))).val := by
  rw [picks_apply, pick_sorted (planes v0 v2) r (dist v0 v2 r) (fun p l => planes_at v0 v2 r l p) k]
  exact word_of_real _ (Fin.isLt _)

end Cert.KernelIdeal.Gen

end
-- ==== Proof.Blocks.lean ====
module

public import proofs.«01_k».proof.Proof.Link
public import proofs.«01_k».proof.Proof.Tile
public import Idealize.ShloMosaic.Lib.Pipeline.ValueKit

/-! What the body leaves in the output's block at a grid point: the picks of the planes of the two input blocks. -/

@[expose] public section

set_option maxRecDepth 16384

noncomputable section

namespace Cert.KernelIdeal.Gen

open Idealize.ShloMosaic Idealize.ShloMosaic.TcCoe Idealize.ShloMosaic.Tactic

variable {F : FTy → Type} [FloatOps F]

set_option maxRecDepth 65536 in
/-- The body stores one piece: the picks of the planes of the two blocks it loads, over the whole output block. -/
theorem pieces_eq (c : Dev nD) (i : grid0.Coords) (arg2 : Memref sig .tc .vmem S1x1024x64 .f32) (harg2 : arg2.IsWhole) (arg3 : Memref sig .tc .vmem S1x64x2048 .f32) (harg3 : arg3.IsWhole) (arg4 : Memref sig .tc .vmem S1x1024x16 .i32) (harg4 : arg4.IsWhole) (arg5 : Memref sig .tc .vmem S8x128 .i32) (harg5 : arg5.IsWhole)
    (x0 : Vec F S1x1024x64 .f32) (x1 : Vec F S1x64x2048 .f32) :
    (kernelRun0_A c i arg2 harg2 arg3 harg3 arg4 harg4 arg5 harg5 x0 x1).1
      = [⟨Rect.unit ![0, 0, 0] ![1, 1024, 16] inb_S1x1024x16_S1x1024x16_0_0_0, picks (planes
          (View.readAt (Elt F) arg2.view (Rect.unit ![0, 0, 0] S1x1024x64.size inb_S1x1024x64_S1x1024x64_0_0_0).toLoadRect (harg2.unread x0))
          (View.readAt (Elt F) arg3.view (Rect.unit ![0, 0, 0] S1x64x2048.size inb_S1x64x2048_S1x64x2048_0_0_0).toLoadRect (harg3.unread x1)))⟩] := by
  rw [← stored_eq c]
  sl_kernel_rfl

/-- The output's block after the body: the picks of the planes of the input blocks. -/
theorem out_eq (c : Dev nD) (i : grid0.Coords) (arg2 : Memref sig .tc .vmem S1x1024x64 .f32) (harg2 : arg2.IsWhole) (arg3 : Memref sig .tc .vmem S1x64x2048 .f32) (harg3 : arg3.IsWhole) (arg4 : Memref sig .tc .vmem S1x1024x16 .i32) (harg4 : arg4.IsWhole) (arg5 : Memref sig .tc .vmem S8x128 .i32) (harg5 : arg5.IsWhole)
    (x0 : Vec F S1x1024x64 .f32) (x1 : Vec F S1x64x2048 .f32) :
    out0_A_2 c i arg2 harg2 arg3 harg3 arg4 harg4 arg5 harg5 x0 x1 = picks (planes x0 x1) := by
  unfold out0_A_2
  rw [pieces_eq]
  simp (disch := decide) only [View.read_writes_junk_eq_canon, View.canon_cons_unit_lit', View.ld_unit_lit', View.readAt_eq_ld,
    Memref.IsWhole.read_unread]

variable (m : (ℓ : Loc nD τ sig) → Buf (Elt F) ℓ)

/-- The same at a grid point's own blocks. -/
theorem outsAt_eq (c : Dev nD) (t : Fin cfg0.N) : outsAt0 m c t = picks (planes (iblk m c 0 t) (iblk m c 1 t)) := by
  unfold outsAt0
  exact out_eq ..

end Cert.KernelIdeal.Gen

end
-- ==== Proof.RefSide.lean ====
module

public import proofs.«01_k».proof.Proof.Rounds
public import proofs.«01_k».proof.Proof.Gen.ReferenceIdeal.Run
public import Idealize.ShloMosaic.Lib.Pointwise

/-! The reference read at an index: the `k`-th nearest key's number, by a stable sort of the distances. -/

@[expose] public section

set_option maxRecDepth 16384

noncomputable section

namespace Cert.ReferenceIdeal.Value

open Cert.ReferenceIdeal Cert.ReferenceIdeal.Gen Idealize.ShloMosaic Idealize.ShloMosaic.TcCoe Cert.Knn

/-- The squared distance from query `q` to key `x` of batch `n`, expanded: |y|² − 2⟨y, x⟩ + |x|². -/
def sqDist (a0 a1 : FVec Ideal S2048x8x64 .f32) (n : Fin 8) (q x : Fin 2048) : EReal :=
  (∑ j : Fin 64, a1 (ix3 q n j) * a1 (ix3 q n j)) - Ideal.ofBits .f32 0x40000000#32 * (∑ j : Fin 64, a1 (ix3 q n j) * a0 (ix3 x n j))
    + ∑ j : Fin 64, a0 (ix3 x n j) * a0 (ix3 x n j)

/-- The reference's distances as one array of the two point sets. -/
def dists (a0 a1 : FVec Ideal S2048x8x64 .f32) : FVec Ideal S8x2048x2048 .f32 :=
  addf (subf (broadcastInDim S8x2048x2048 ![0, 1, 2] bcast_S8x2048x1_S8x2048x2048_0_1_2 (broadcastInDim S8x2048x1 ![0, 1] bcast_S8x2048_S8x2048x1_0_1 (Host.reduceAdd (mulf (transpose S8x2048x64 [1, 0, 2] a1 transposes_S2048x8x64_S8x2048x64_1_0_2) (transpose S8x2048x64 [1, 0, 2] a1 transposes_S2048x8x64_S8x2048x64_1_0_2)) (constant S_ .f32 0x00000000#32) reducesTo_S8x2048x64_S8x2048_d2 h_S_))) (mulf (broadcastInDim S8x2048x2048 ![] bcast_S_S8x2048x2048 (constant S_ .f32 0x40000000#32)) (Host.dotGeneral dot_S8x2048x64_S8x64x2048_S8x2048x2048_2_1_1_2_0_0 none (transpose S8x2048x64 [1, 0, 2] a1 transposes_S2048x8x64_S8x2048x64_1_0_2) (transpose S8x64x2048 [0, 2, 1] (transpose S8x2048x64 [1, 0, 2] a0 transposes_S2048x8x64_S8x2048x64_1_0_2) transposes_S8x2048x64_S8x64x2048_0_2_1)))) (broadcastInDim S8x2048x2048 ![0, 1, 2] bcast_S8x1x2048_S8x2048x2048_0_1_2 (broadcastInDim S8x1x2048 ![0, 2] bcast_S8x2048_S8x1x2048_0_2 (Host.reduceAdd (mulf (transpose S8x2048x64 [1, 0, 2] a0 transposes_S2048x8x64_S8x2048x64_1_0_2) (transpose S8x2048x64 [1, 0, 2] a0 transposes_S2048x8x64_S8x2048x64_1_0_2)) (constant S_ .f32 0x00000000#32) reducesTo_S8x2048x64_S8x2048_d2 h_S_)))

/-- The reference's sorted key numbers. -/
def nearest (a0 a1 : FVec Ideal S2048x8x64 .f32) : IVec S8x2048x16 32 :=
  (Host.topK S8x2048x16 2 (FloatOps.cmpfTotal .gt) (Host.negf (dists a0 a1)) sliceFits_S8x2048x2048_S8x2048x16).2

/-- The modulus of the wrap. -/
def modulus : IVec S_ 32 :=
  select (cmpi .eq (id (constantI S_ 32 2048#32)) (constantI S_ 32 0#32)) (constantI S_ 32 1#32) (id (constantI S_ 32 2048#32))

/-- Key numbers taken modulo the number of keys, with the modulus's sign. -/
def wrap (x : IVec S8x2048x16 32) : IVec S8x2048x16 32 :=
  select (andi (cmpi .ne (cmpi .slt (Host.remsi x (broadcastInDim S8x2048x16 ![] bcast_S_S8x2048x16 modulus)) (broadcastInDim S8x2048x16 ![] bcast_S_S8x2048x16 (constantI S_ 32 0#32))) (broadcastInDim S8x2048x16 ![] bcast_S_S8x2048x16 (cmpi .slt modulus (constantI S_ 32 0#32)))) (cmpi .ne (Host.remsi x (broadcastInDim S8x2048x16 ![] bcast_S_S8x2048x16 modulus)) (broadcastInDim S8x2048x16 ![] bcast_S_S8x2048x16 (constantI S_ 32 0#32)))) (addi (Host.remsi x (broadcastInDim S8x2048x16 ![] bcast_S_S8x2048x16 modulus)) (broadcastInDim S8x2048x16 ![] bcast_S_S8x2048x16 modulus)) (Host.remsi x (broadcastInDim S8x2048x16 ![] bcast_S_S8x2048x16 modulus))

/-- The reference's first result is the sorted key numbers, wrapped, axes reversed, flattened. -/
theorem res_eq (m : (ℓ : Loc nD τ sig) → Buf (Elt Ideal) ℓ) (c : Dev nD) :
    res_main_v21 m c = shapeCast S262144 (transpose S16x2048x8 [2, 1, 0] (wrap (nearest (m ((c.tc : Thread nD τ).loc main_arg0)) (m ((c.tc : Thread nD τ).loc main_arg1)))) transposes_S8x2048x16_S16x2048x8_2_1_0) shapeCasts_S16x2048x8_S262144 := by
  unfold res_main_v21 wrap nearest dists modulus
  rfl

/-- The reference's distances at an index. -/
theorem dists_apply (a0 a1 : FVec Ideal S2048x8x64 .f32) (n : Fin 8) (q x : Fin 2048) :
    dists a0 a1 (ix3 n q x) = sqDist a0 a1 n q x := by
  unfold sqDist
  pointwise [dists]

/-- The greater of two negated extended reals is the one whose own value is the lesser. -/
theorem gt_neg (x y : EReal) : (Ideal.cmpTotal .gt (-x) (-y) == 1#1) = decide (x < y) := by
  have h : Ideal.cmpTotal .gt (-x) (-y) = BitVec.ofBool (decide (-y < -x)) := rfl
  rw [h]
  by_cases e : x < y
  · have e' : -y < -x := EReal.neg_lt_neg_iff.mpr e
    simp [e, e']
  · have e' : ¬ -y < -x := fun h => e (EReal.neg_lt_neg_iff.mp h)
    simp [e, e']

/-- A slice that keeps the first sixteen places. -/
theorem slice_apply {α : Type} (X : S8x2048x2048.Idx → α) (h : S8x2048x2048.Slices (fun _ => 0) S8x2048x16) (n : Fin 8) (q : Fin 2048)
    (k : Fin 16) : extractStridedSlice S8x2048x16 (fun _ => 0) X h (ix3 n q k) = X (ix3 n q (k.castLE (by omega))) := by
  pointwise
  rfl

/-- The last axis of the distances. -/
abbrev lastAxis : Fin S8x2048x2048.rank := ⟨2, by decide⟩

/-- A place along the last axis. -/
theorem along_last (n : Fin 8) (q k x : Fin 2048) : Shape.Idx.along (s := S8x2048x2048) (ix3 n q k) lastAxis x = ix3 n q x := by
  funext a
  fin_cases a <;> rfl

/-- The count along the last axis, read at a place along it. -/
theorem iota_along (n : Fin 8) (q k x : Fin 2048) :
    iotaInDim S8x2048x2048 32 lastAxis (Shape.Idx.along (s := S8x2048x2048) (ix3 n q k) lastAxis x) = BitVec.ofNat 32 x.val := by
  rw [along_last]
  rfl

/-- The reference's sorted key numbers at an index. -/
theorem nearest_apply (a0 a1 : FVec Ideal S2048x8x64 .f32) (n : Fin 8) (q : Fin 2048) (k : Fin 16) :
    nearest a0 a1 (ix3 n q k) = BitVec.ofNat 32 (sortedFrom (nearer (sqDist a0 a1 n q)) (k.castLE (by omega))).val := by
  rw [← stable_eq (sqDist a0 a1 n q) (fun a b => Ideal.cmpTotal .gt (-dists a0 a1 (ix3 n q a)) (-dists a0 a1 (ix3 n q b)) == 1#1)
    (fun a b => by rw [gt_neg, dists_apply, dists_apply])]
  have e : (fun a b : Fin 2048 => Ideal.cmpTotal .gt (-dists a0 a1 (ix3 n q a)) (-dists a0 a1 (ix3 n q b)) == 1#1)
      = fun a b : Fin 2048 => Ideal.cmpTotal .gt (-dists a0 a1 (Shape.Idx.along (s := S8x2048x2048) (ix3 n q (k.castLE (by omega))) lastAxis a)) (-dists a0 a1 (Shape.Idx.along (s := S8x2048x2048) (ix3 n q (k.castLE (by omega))) lastAxis b)) == 1#1 := by
    funext a b
    rw [along_last, along_last]
  rw [e]
  unfold nearest Host.topK
  dsimp only
  rw [slice_apply]
  unfold Host.sort2
  rw [dif_pos (show 2 < S8x2048x2048.rank by decide)]
  dsimp only
  rw [dif_pos (show 2 < S8x2048x2048.rank by decide)]
  refine (iota_along n q _ _).trans ?_
  exact congrArg (fun R : Fin 2048 → Fin 2048 → Bool => BitVec.ofNat 32 (sortedFrom R (k.castLE (by omega))).val)
    (funext fun a => funext fun b => rfl)

/-- A word below 2048 is its own remainder modulo 2048. -/
theorem wrap_word (w : BitVec 32) (h : w.toNat < 2048) : IntOp.remsi ArithUnit.host w 2048#32 = w := by
  have h1 : ¬ IntOp.SDivCorner w 2048#32 := by
    unfold IntOp.SDivCorner
    simp
  unfold IntOp.remsi
  rw [if_neg h1]
  have hw : w.msb = false := by
    rw [BitVec.msb_eq_false_iff_two_mul_lt]; omega
  rw [BitVec.srem_eq]
  simp only [hw, show (2048#32).msb = false by decide]
  refine BitVec.eq_of_toNat_eq ?_
  rw [BitVec.toNat_umod]
  exact Nat.mod_eq_of_lt h

/-- The wrap leaves a key number as it is. -/
theorem wrap_apply (x : IVec S8x2048x16 32) (i : S8x2048x16.Idx) (h : (x i).toNat < 2048) : wrap x i = x i := by
  idx_vars i
  pointwise [wrap, modulus]
  have e : Scalar.select (IntOp.cmpi CmpIPredicate.eq (id (constantI S_ 32 2048#32) ix0) 0#32) (1#32)
                (id (constantI S_ 32 2048#32) ix0) = 2048#32 := by rfl
  rw [e, wrap_word _ h]
  have e1 : IntOp.cmpi CmpIPredicate.slt (x (ix3 i0 i1 i2)) 0#32 = 0#1 := by
    have h2 : (x (ix3 i0 i1 i2)).slt 0#32 = false := by
      rw [BitVec.slt_eq_decide, decide_eq_false_iff_not, BitVec.toInt_eq_toNat_of_lt (by omega)]
      simp
    unfold IntOp.cmpi
    simp [h2]
  have e2 : IntOp.cmpi CmpIPredicate.slt 2048#32 0#32 = 0#1 := by decide
  rw [e1, e2]
  have e3 : IntOp.cmpi CmpIPredicate.ne 0#1 0#1 = 0#1 := by decide
  have e4 : ∀ b : BitVec 1, IntOp.andi 0#1 b = 0#1 := by decide
  rw [e3, e4]
  rfl

/-- The reference's wrapped key numbers at an index. -/
theorem wrapped_apply (a0 a1 : FVec Ideal S2048x8x64 .f32) (n : Fin 8) (q : Fin 2048) (k : Fin 16) :
    wrap (nearest a0 a1) (ix3 n q k) = BitVec.ofNat 32 (sortedFrom (nearer (sqDist a0 a1 n q)) (k.castLE (by omega))).val := by
  rw [wrap_apply, nearest_apply]
  rw [nearest_apply, BitVec.toNat_ofNat]
  exact lt_of_le_of_lt (Nat.mod_le _ _) (Fin.isLt _)

end Cert.ReferenceIdeal.Value

end
-- ==== Proof.KernelSide.lean ====
module

public import proofs.«01_k».proof.Proof.Blocks
public import proofs.«01_k».proof.Proof.RefSide
public import Idealize.ShloMosaic.Lib.Claim
public import Idealize.ShloMosaic.Lib.Pipeline.ValueKit

/-! The kernel's result array: every block holds the wrapped nearest key numbers of the reference. -/

@[expose] public section

set_option maxRecDepth 16384

noncomputable section

namespace Cert.KernelIdeal.Gen

open Idealize.ShloMosaic Idealize.ShloMosaic.TcCoe Idealize.ShloMosaic.Tactic Cert.Knn
open Cert.ReferenceIdeal.Value (sqDist wrap nearest wrapped_apply)

variable (m : (ℓ : Loc nD τ sig) → Buf (Elt Ideal) ℓ)

/-- The windows' block indices at a grid point: the batch, the query tile. -/
theorem index_eq : ∀ t : Fin grid0.N,
    win0_0.index t = ![(grid0.coords t 0).val, (grid0.coords t 1).val, 0]
      ∧ win0_1.index t = ![(grid0.coords t 0).val, 0, 0]
      ∧ win0_2.index t = ![(grid0.coords t 0).val, (grid0.coords t 1).val, 0] := by decide +kernel

/-- The region finds the second argument with its first two axes exchanged. -/
theorem V_queries (c : Dev nD) : V m c main_v1
    = transpose S8x2048x64 [1, 0, 2] (m ((c.tc : Thread nD τ).loc main_arg1)) transposes_S2048x8x64_S8x2048x64_1_0_2 := by
  entry_read
  try rfl

/-- The region finds the first argument with the batch first and the points last. -/
theorem V_keys (c : Dev nD) : V m c main_v0
    = transpose S8x64x2048 [1, 2, 0] (m ((c.tc : Thread nD τ).loc main_arg0)) transposes_S2048x8x64_S8x64x2048_1_2_0 := by
  entry_read
  try rfl

/-- The query rows of a block are rows of the second argument. -/
theorem block0_apply (c : Dev nD) (t : Fin cfg0.N) (n : Fin 8) (q : Fin 2048) (r : Fin 1024) (j : Fin 64)
    (hn : n.val = (grid0.coords t 0).val) (hq : q.val = (grid0.coords t 1).val * 1024 + r.val) :
    iblk m c 0 t (ix3 0 r j) = m ((c.tc : Thread nD τ).loc main_arg1) (ix3 q n j) := by
  obtain ⟨e0, e1, e2⟩ := index_eq t
  unfold iblk
  show V m c main_v1 (((cfg0.win 0).blk t).view.emb (ix3 0 r j)) = _
  have e : ((cfg0.win 0).blk t).view.emb (ix3 0 r j) = ix3 n q j := by
    blk_ext [e0]
  rw [e, V_queries]
  pointwise

/-- The keys of a block are the columns of the first argument. -/
theorem block1_apply (c : Dev nD) (t : Fin cfg0.N) (n : Fin 8) (x : Fin 2048) (j : Fin 64)
    (hn : n.val = (grid0.coords t 0).val) :
    iblk m c 1 t (ix3 0 j x) = m ((c.tc : Thread nD τ).loc main_arg0) (ix3 x n j) := by
  obtain ⟨e0, e1, e2⟩ := index_eq t
  unfold iblk
  show V m c main_v0 (((cfg0.win 1).blk t).view.emb (ix3 0 j x)) = _
  have e : ((cfg0.win 1).blk t).view.emb (ix3 0 j x) = ix3 n j x := by
    blk_ext [e1]
  rw [e, V_keys]
  pointwise

/-- A tile's distances in terms of its rows and columns. -/
theorem dist_apply (v0 : FVec Ideal S1x1024x64 .f32) (v2 : FVec Ideal S1x64x2048 .f32) (r : Fin 1024) (x : Fin 2048) :
    dist v0 v2 r x = (∑ j : Fin 64, v0 (ix3 0 r j) * v0 (ix3 0 r j)) - Ideal.ofBits .f32 0x40000000#32 * (∑ j : Fin 64, v0 (ix3 0 r j) * v2 (ix3 0 j x))
      + ∑ j : Fin 64, v2 (ix3 0 j x) * v2 (ix3 0 j x) := by
  unfold dist
  pointwise [k0_pay4]

/-- The tile's distances are the reference's. -/
theorem dist_block (c : Dev nD) (t : Fin cfg0.N) (n : Fin 8) (q x : Fin 2048) (r : Fin 1024)
    (hn : n.val = (grid0.coords t 0).val) (hq : q.val = (grid0.coords t 1).val * 1024 + r.val) :
    dist (iblk m c 0 t) (iblk m c 1 t) r x
      = sqDist (m ((c.tc : Thread nD τ).loc main_arg0)) (m ((c.tc : Thread nD τ).loc main_arg1)) n q x := by
  rw [dist_apply]
  unfold sqDist
  simp only [fun j => block0_apply m c t n q r j hn hq, fun j => block1_apply m c t n x j hn]

/-- The array the pipelined call leaves is the reference's wrapped key numbers. -/
theorem final_eq (c : Dev nD) : (dats m 0 c).arrAt 2 cfg0.N
    = wrap (nearest (m ((c.tc : Thread nD τ).loc main_arg0)) (m ((c.tc : Thread nD τ).loc main_arg1))) := by
  refine (dats m 0 c).arrAt_eq_of_covers 2 _ (by decide +kernel) fun t hf y => ?_
  obtain ⟨e0, e1, e2⟩ := index_eq t
  blk_simp
  rw [after0_2, outsAt_eq]
  change picks (planes (iblk m c 0 t) (iblk m c 1 t)) (y : S1x1024x16.Idx) = _
  change S1x1024x16.Idx at y
  idx_vars y
  have h1 := (grid0.coords t 0).isLt
  have h2 := (grid0.coords t 1).isLt
  change (grid0.coords t 0).val < 8 at h1
  change (grid0.coords t 1).val < 2 at h2
  have e : (win0_2.blk t).view.emb (ix3 y0 y1 y2)
      = ix3 (⟨(grid0.coords t 0).val, h1⟩ : Fin 8) (⟨(grid0.coords t 1).val * 1024 + y1.val, by omega⟩ : Fin 2048) y2 := by
    blk_ext [e2]
  have ei : y0 = 0 := Subsingleton.elim _ _
  subst ei
  rw [e, picks_sorted]
  refine Eq.trans ?_ (wrapped_apply _ _ _ _ _).symm
  rw [show dist (iblk m c 0 t) (iblk m c 1 t) y1 = _ from
    funext fun x => dist_block m c t ⟨(grid0.coords t 0).val, h1⟩ ⟨(grid0.coords t 1).val * 1024 + y1.val, by omega⟩ x y1 rfl rfl]

end Cert.KernelIdeal.Gen

end
-- ==== Proof.KernelRun.lean ====
module

public import proofs.«01_k».proof.Proof.KernelSide

/-! The kernel's run: its two results, and its arguments unchanged. -/

@[expose] public section

set_option maxRecDepth 16384

noncomputable section

namespace Cert.KernelIdeal.Gen

open Idealize.ShloMosaic Idealize.ShloMosaic.TcCoe Idealize.ShloMosaic.Tactic Idealize.SL.Sem Cert.Knn
open Cert.ReferenceIdeal.Value (wrap nearest)

variable (m : (ℓ : Loc nD τ sig) → Buf (Elt Ideal) ℓ)

/-- The key numbers, flattened with the axes reversed, as the lines after the region leave them. -/
theorem tail_keys (c : Dev nD) : Pipeline.afterTail₀ cfgs (dats m) 0 (V0 m) [hostOps1] c main_v4
    = shapeCast S262144 (transpose S16x2048x8 [2, 1, 0]
        (wrap (nearest (m ((c.tc : Thread nD τ).loc main_arg0)) (m ((c.tc : Thread nD τ).loc main_arg1))))
        transposes_S8x2048x16_S16x2048x8_2_1_0) shapeCasts_S16x2048x8_S262144 := by
  have h := Pipeline.withArrays_arr spec0 launch0.win.arr_inj c (V0 m c) (fun w => (dats m 0 c).arrAt w cfg0.N) 2
  rw [final_eq] at h
  unfold Pipeline.afterTail₀
  simp only [hostOps1, List.flatten_cons, List.flatten_nil, List.append_nil]
  after_results_simp
  exact congrArg (fun X => shapeCast S262144 (transpose S16x2048x8 [2, 1, 0] X transposes_S8x2048x16_S16x2048x8_2_1_0)
    shapeCasts_S16x2048x8_S262144) h

/-- The batch numbers, flattened, as the lines after the region leave them. -/
theorem tail_batches (c : Dev nD) : Pipeline.afterTail₀ cfgs (dats m) 0 (V0 m) [hostOps1] c main_v7
    = shapeCast S262144 (broadcastInDim S16x2048x8 ![2] bcast_S8_S16x2048x8_2 (iotaInDim S8 32 0)) shapeCasts_S16x2048x8_S262144 := by
  unfold Pipeline.afterTail₀
  simp only [hostOps1, List.flatten_cons, List.flatten_nil, List.append_nil]
  after_results_simp
  rfl

/-- Every run of the kernel ends with the flattened key numbers and batch numbers, the arguments unchanged. -/
theorem results (ρ : Dev nD → PrngReg) :
    θ_run defs (onTc (τ := τ) (main (F := Ideal))) ⟨m, fun _ => 0, ρ⟩ fun r => ∀ c : Dev nD,
      r.2.mem ((c.tc : Thread nD τ).loc main_v4) = shapeCast S262144 (transpose S16x2048x8 [2, 1, 0]
          (wrap (nearest (m ((c.tc : Thread nD τ).loc main_arg0)) (m ((c.tc : Thread nD τ).loc main_arg1))))
          transposes_S8x2048x16_S16x2048x8_2_1_0) shapeCasts_S16x2048x8_S262144
      ∧ r.2.mem ((c.tc : Thread nD τ).loc main_v7)
        = shapeCast S262144 (broadcastInDim S16x2048x8 ![2] bcast_S8_S16x2048x8_2 (iotaInDim S8 32 0)) shapeCasts_S16x2048x8_S262144
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v4 (by decide)).trans (tail_keys m c),
    ((h c).2 main_v7 (by decide)).trans (tail_batches m c),
    ((h c).2 main_arg0 (by decide)).trans (W_main_arg0 m (dats m) c),
    ((h c).2 main_arg1 (by decide)).trans (W_main_arg1 m (dats m) c)⟩) (run_main m ρ)

end Cert.KernelIdeal.Gen

end
-- ==== Proof.lean ====
/- The five claims: the kernel, its ideal reading and the ideal reference each run to the end, leave their arguments
   unchanged and every semaphore counter at zero; the ideal kernel is the kernel's own text; and the ideal kernel and the
   ideal reference end with the same two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import Idealize.ShloMosaic.Adequacy
public import Idealize.ShloMosaic.Init

@[expose] public section

noncomputable section

namespace Cert.Proof

open Idealize.ShloMosaic Idealize.SL.Sem Cert.Kernel

/-- The reference runs, leaves its arguments unchanged, and has no semaphore counter that could be other than zero. -/
theorem reference_quiet (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2.2, sem_eq_zero_of_no_sems rfl r.2⟩) (Cert.ReferenceIdeal.Value.run m g)

/-- Kernel and reference, run from memories that agree on the arguments, end with the same two results. -/
theorem same_results : Cert.algebraic_KernelIdeal_ReferenceIdeal := by
  intro m g m' g' _ hagree
  refine ⟨_, _, Cert.KernelIdeal.Gen.results m g, ?_⟩
  refine (θ_run _ _ _).mono (fun r h c => ⟨(h c).1.trans ?_, (h c).2.1.trans rfl, (h c).2.2⟩) (Cert.ReferenceIdeal.Value.run m' g')
  rw [Cert.ReferenceIdeal.Value.res_eq, (hagree c).1, (hagree c).2]

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m g _ => reference_quiet m g, trivial, same_results⟩

end Cert.Proof

end
